-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "half_l8" .f32 0x40603958#32 ((7007 / 2000 : ℝ) : EReal)
  ∧ IdealRules.named_const.Statement Cert.KernelIdeal.κ "half_l5" .f32 0x400020C5#32 ((1001 / 500 : ℝ) : EReal)
  ∧ IdealRules.named_const.Statement Cert.KernelIdeal.κ "shift8" .f32 0x3E1324E0#32 (((1 / 2) * (Real.log (8007 / 6007)) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_cst)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_cst) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_cst_9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x576x768 : Shape := ⟨3, ![32, 576, 768]⟩
abbrev S6x768 : Shape := ⟨2, ![6, 768]⟩
abbrev S6 : Shape := ⟨1, ![6]⟩
abbrev S768x6 : Shape := ⟨2, ![768, 6]⟩
abbrev S768 : Shape := ⟨1, ![768]⟩
abbrev S18432x768 : Shape := ⟨2, ![18432, 768]⟩
abbrev S1x6 : Shape := ⟨2, ![1, 6]⟩
abbrev S1x768 : Shape := ⟨2, ![1, 768]⟩
abbrev S4608x768 : Shape := ⟨2, ![4608, 768]⟩
abbrev S4608x6 : Shape := ⟨2, ![4608, 6]⟩
abbrev S_ : Shape := ⟨0, ![]⟩

abbrev nBuf : Space → Nat
  | .hbm => 11
  | .vmem => 8
  | .smem => 0
  | _ => 0

abbrev bufTy : (tb : Table) → Fin (tcTables nBuf tb) → BufTy
  | .hbm, ⟨0, _⟩ => ⟨S32x576x768, .f32⟩
  | .hbm, ⟨1, _⟩ => ⟨S6x768, .f32⟩
  | .hbm, ⟨2, _⟩ => ⟨S6, .f32⟩
  | .hbm, ⟨3, _⟩ => ⟨S768x6, .f32⟩
  | .hbm, ⟨4, _⟩ => ⟨S768, .f32⟩
  | .hbm, ⟨5, _⟩ => ⟨S18432x768, .f32⟩
  | .hbm, ⟨6, _⟩ => ⟨S1x6, .f32⟩
  | .hbm, ⟨7, _⟩ => ⟨S1x768, .f32⟩
  | .hbm, ⟨8, _⟩ => ⟨S18432x768, .f32⟩
  | .hbm, ⟨9, _⟩ => ⟨S32x576x768, .f32⟩
  | .hbm, ⟨10, _⟩ => ⟨S_, .f32⟩
  | .local _ .vmem, ⟨0, _⟩ => ⟨S4608x768, .f32⟩
  | .local _ .vmem, ⟨1, _⟩ => ⟨S4608x768, .f32⟩
  | .local _ .vmem, ⟨2, _⟩ => ⟨S6x768, .f32⟩
  | .local _ .vmem, ⟨3, _⟩ => ⟨S1x6, .f32⟩
  | .local _ .vmem, ⟨4, _⟩ => ⟨S768x6, .f32⟩
  | .local _ .vmem, ⟨5, _⟩ => ⟨S1x768, .f32⟩
  | .local _ .vmem, ⟨6, _⟩ => ⟨S4608x768, .f32⟩
  | .local _ .vmem, ⟨7, _⟩ => ⟨S4608x768, .f32⟩
  | _, _ => ⟨S32x576x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4608x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4608x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "half_l5" => some ((1001 / 500 : ℝ) : EReal)
  | "half_l8" => some ((7007 / 2000 : ℝ) : EReal)
  | "shift8" => some (((1 / 2) * (Real.log (8007 / 6007)) : ℝ) : EReal)
  | _ => none
-- ==== ReferenceIdeal.lean ====
abbrev S32x576x768 : Shape := ⟨3, ![32, 576, 768]⟩
abbrev S6x768 : Shape := ⟨2, ![6, 768]⟩
abbrev S6 : Shape := ⟨1, ![6]⟩
abbrev S768x6 : Shape := ⟨2, ![768, 6]⟩
abbrev S768 : Shape := ⟨1, ![768]⟩
abbrev S32x576x6 : Shape := ⟨3, ![32, 576, 6]⟩
abbrev S1x1x6 : Shape := ⟨3, ![1, 1, 6]⟩
abbrev S_ : Shape := ⟨0, ![]⟩
abbrev S1x1x768 : Shape := ⟨3, ![1, 1, 768]⟩

abbrev nBuf : Space → Nat
  | .hbm => 80
  | .vmem => 0
  | .smem => 0
  | _ => 0

abbrev bufTy : (tb : Table) → Fin (tcTables nBuf tb) → BufTy
  | .hbm, ⟨0, _⟩ => ⟨S32x576x768, .f32⟩
  | .hbm, ⟨1, _⟩ => ⟨S6x768, .f32⟩
  | .hbm, ⟨2, _⟩ => ⟨S6, .f32⟩
  | .hbm, ⟨3, _⟩ => ⟨S768x6, .f32⟩
  | .hbm, ⟨4, _⟩ => ⟨S768, .f32⟩
  | .hbm, ⟨5, _⟩ => ⟨S6, .i32⟩
  | .hbm, ⟨6, _⟩ => ⟨S6, .i32⟩
  | .hbm, ⟨7, _⟩ => ⟨S32x576x6, .f32⟩
  | .hbm, ⟨8, _⟩ => ⟨S1x1x6, .f32⟩
  | .hbm, ⟨9, _⟩ => ⟨S32x576x6, .f32⟩
  | .hbm, ⟨10, _⟩ => ⟨S32x576x6, .f32⟩
  | .hbm, ⟨11, _⟩ => ⟨S6, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S6, .f32⟩
  | .hbm, ⟨16, _⟩ => ⟨S_, .f32⟩
  | .hbm, ⟨17, _⟩ => ⟨S6, .f32⟩
  | .hbm, ⟨18, _⟩ => ⟨S6, .f32⟩
  | .hbm, ⟨19, _⟩ => ⟨S_, .f32⟩
  | .hbm, ⟨20, _⟩ => ⟨S_, .f32⟩
  | .hbm, ⟨21, _⟩ => ⟨S6, .f32⟩
  | .hbm, ⟨22, _⟩ => ⟨S6, .f32⟩
  | .hbm, ⟨23, _⟩ => ⟨S_, .f32⟩
  | .hbm, ⟨24, _⟩ => ⟨S6, .f32⟩
  | .hbm, ⟨25, _⟩ => ⟨S6, .f32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S6, .i32⟩
  | .hbm, ⟨33, _⟩ => ⟨S6, .i32⟩
  | .hbm, ⟨34, _⟩ => ⟨S_, .i32⟩
  | .hbm, ⟨35, _⟩ => ⟨S6, .i32⟩
  | .hbm, ⟨36, _⟩ => ⟨S6, .i1⟩
  | .hbm, ⟨37, _⟩ => ⟨S_, .i32⟩
  | .hbm, ⟨38, _⟩ => ⟨S6, .i32⟩
  | .hbm, ⟨39, _⟩ => ⟨S6, .i1⟩
  | .hbm, ⟨40, _⟩ => ⟨S_, .i32⟩
  | .hbm, ⟨41, _⟩ => ⟨S_, .i1⟩
  | .hbm, ⟨42, _⟩ => ⟨S6, .i1⟩
  | .hbm, ⟨43, _⟩ => ⟨S6, .i1⟩
  | .hbm, ⟨44, _⟩ => ⟨S6, .i1⟩
  | .hbm, ⟨45, _⟩ => ⟨S6, .i32⟩
  | .hbm, ⟨46, _⟩ => ⟨S6, .i32⟩
  | .hbm, ⟨47, _⟩ => ⟨S6, .i32⟩
  | .hbm, ⟨48, _⟩ => ⟨S_, .i32⟩
  | .hbm, ⟨49, _⟩ => ⟨S6, .i32⟩
  | .hbm, ⟨50, _⟩ => ⟨S6, .i1⟩
  | .hbm, ⟨51, _⟩ => ⟨S_, .f32⟩
  | .hbm, ⟨52, _⟩ => ⟨S_, .f32⟩
  | .hbm, ⟨53, _⟩ => ⟨S6, .f32⟩
  | .hbm, ⟨54, _⟩ => ⟨S6, .f32⟩
  | .hbm, ⟨55, _⟩ => ⟨S6, .f32⟩
  | .hbm, ⟨56, _⟩ => ⟨S6, .f32⟩
  | .hbm, ⟨57, _⟩ => ⟨S6, .f32⟩
  | .hbm, ⟨58, _⟩ => ⟨S6, .f32⟩
  | .hbm, ⟨59, _⟩ => ⟨S1x1x6, .f32⟩
  | .hbm, ⟨60, _⟩ => ⟨S32x576x6, .f32⟩
  | .hbm, ⟨61, _⟩ => ⟨S32x576x6, .f32⟩
  | .hbm, ⟨62, _⟩ => ⟨S32x576x6, .f32⟩
  | .hbm, ⟨63, _⟩ => ⟨S1x1x6, .f32⟩
  | .hbm, ⟨64, _⟩ => ⟨S32x576x6, .f32⟩
  | .hbm, ⟨65, _⟩ => ⟨S32x576x6, .f32⟩
  | .hbm, ⟨66, _⟩ => ⟨S1x1x6, .f32⟩
  | .hbm, ⟨67, _⟩ => ⟨S32x576x6, .f32⟩
  | .hbm, ⟨68, _⟩ => ⟨S32x576x6, .f32⟩
  | .hbm, ⟨69, _⟩ => ⟨S32x576x6, .f32⟩
  | .hbm, ⟨70, _⟩ => ⟨S32x576x6, .f32⟩
  | .hbm, ⟨71, _⟩ => ⟨S32x576x6, .f32⟩
  | .hbm, ⟨72, _⟩ => ⟨S1x1x6, .f32⟩
  | .hbm, ⟨73, _⟩ => ⟨S32x576x6, .f32⟩
  | .hbm, ⟨74, _⟩ => ⟨S32x576x6, .f32⟩
  | .hbm, ⟨75, _⟩ => ⟨S32x576x768, .f32⟩
  | .hbm, ⟨76, _⟩ => ⟨S1x1x768, .f32⟩
  | .hbm, ⟨77, _⟩ => ⟨S32x576x768, .f32⟩
  | .hbm, ⟨78, _⟩ => ⟨S32x576x768, .f32⟩
  | .hbm, ⟨79, _⟩ => ⟨S_, .f32⟩
  | _, _ => ⟨S32x576x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_c_5 : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_c_1 : Ref sig .tc := ⟨.hbm, 34, rfl⟩
abbrev main_call0_v5 : Ref sig .tc := ⟨.hbm, 35, rfl⟩
abbrev main_call0_v6 : Ref sig .tc := ⟨.hbm, 36, rfl⟩
abbrev main_call0_c_2 : Ref sig .tc := ⟨.hbm, 37, rfl⟩
abbrev main_call0_v7 : Ref sig .tc := ⟨.hbm, 38, rfl⟩
abbrev main_call0_v8 : Ref sig .tc := ⟨.hbm, 39, rfl⟩
abbrev main_call0_c_3 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_v14 : Ref sig .tc := ⟨.hbm, 47, rfl⟩
abbrev main_c_6 : Ref sig .tc := ⟨.hbm, 48, rfl⟩
abbrev main_v15 : Ref sig .tc := ⟨.hbm, 49, rfl⟩
abbrev main_v16 : Ref sig .tc := ⟨.hbm, 50, rfl⟩
abbrev main_cst_7 : Ref sig .tc := ⟨.hbm, 51, rfl⟩
abbrev main_cst_8 : Ref sig .tc := ⟨.hbm, 52, rfl⟩
abbrev main_call1_v0 : Ref sig .tc := ⟨.hbm, 53, rfl⟩
abbrev main_call1_v1 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_cst_9 : Ref sig .tc := ⟨.hbm, 79, rfl⟩

abbrev nD : Nat := 1
abbrev τ : Topo := Topo.v7x

variable {F : FTy → Type} [FloatOps F]
-- ==== Proof.Consts.lean ====
/- The float constants the two programs spell, read as extended reals: the half and the quarter of the kernel, and the
   thousand and the two of the reference. They are unfolded here once, and named everywhere else. -/
module

public import Idealize.ShloMosaic.PureOps.Ideal

@[expose] public section

noncomputable section

namespace Cert.Proof.Consts

open Idealize.ShloMosaic

/-- The word of `0.5` is the real one half. -/
theorem half_word : Ideal.ofBits .f32 0x3F000000#32 = ((1 / 2 : ℝ) : EReal) := by
  simp [Ideal.ofBits, Ideal.ieee, -EReal.coe_mul]; norm_num

/-- The word of `0.25` is the real one quarter. -/
theorem quarter_word : Ideal.ofBits .f32 0x3E800000#32 = ((1 / 4 : ℝ) : EReal) := by
  simp [Ideal.ofBits, Ideal.ieee, -EReal.coe_mul]; norm_num

/-- The word of `2.0` is the real two. -/
theorem two_word : Ideal.ofBits .f32 0x40000000#32 = ((2 : ℝ) : EReal) := by
  simp [Ideal.ofBits, Ideal.ieee, -EReal.coe_mul]; norm_num

/-- The word of `1000.0` is the real one thousand. -/
theorem thousand_word : Ideal.ofBits .f32 0x447A0000#32 = ((1000 : ℝ) : EReal) := by
  simp [Ideal.ofBits, Ideal.ieee, -EReal.coe_mul]; norm_num

end Cert.Proof.Consts

end
-- ==== Proof.Code.lean ====
/- One code of the quantiser as a function of one projected value, over the extended reals. A code position below three
   has eight levels and an offset of one half; the others have five levels and no offset. Both programs are compared
   against `code`, and `entry` is one entry of the decoded result. -/
module

public import Idealize.ShloMosaic.PureOps.Ideal

@[expose] public section

noncomputable section

namespace Cert.Proof

open Idealize.ShloMosaic

/-- The half range of code position `d`: `(levels - 1) · (1 + 1/1000) / 2`. -/
def halfRange (d : Fin 6) : ℝ := if d.val < 3 then 7007 / 2000 else 1001 / 500

/-- The offset of code position `d`: one half for an even number of levels, zero for an odd number. -/
def offset (d : Fin 6) : ℝ := if d.val < 3 then 1 / 2 else 0

/-- The shift inside the `tanh`: the inverse `tanh` of the offset over the half range, as a logarithm. -/
def shift (d : Fin 6) : ℝ := if d.val < 3 then 1 / 2 * Real.log (8007 / 6007) else 0

/-- The distance between two neighbouring codes after rescaling: one over half the number of levels, rounded down. -/
def step (d : Fin 6) : ℝ := if d.val < 3 then 1 / 4 else 1 / 2

/-- The bounded value that is rounded: `tanh (x + shift) · halfRange - offset`. -/
def bounded (d : Fin 6) (x : EReal) : EReal :=
  Ideal.tanh (x + (shift d : EReal)) * (halfRange d : EReal) - (offset d : EReal)

/-- The code: the bounded value rounded to the nearest integer, ties to even, times the step. -/
def code (d : Fin 6) (x : EReal) : EReal := Ideal.liftRound Ideal.roundHalfEven (bounded d x) * (step d : EReal)

/-- One entry of the result, from one row `z` of the input, the compressing weights `wc` with their bias `bc`, and one
    row `we` of the expanding weights with its bias `be`: project, quantise, project back. -/
def entry (z : Fin 768 → EReal) (wc : Fin 6 → Fin 768 → EReal) (bc : Fin 6 → EReal) (we : Fin 6 → EReal)
    (be : EReal) : EReal :=
  ∑ d : Fin 6, code d (∑ k : Fin 768, z k * wc d k + bc d) * we d + be

/-- The hyperbolic tangent of an extended real is a real number. -/
theorem tanh_real (x : EReal) : ∃ r : ℝ, Ideal.tanh x = (r : EReal) := by
  induction x using EReal.rec with
  | bot => exact ⟨-1, (Ideal.tanh_bot).trans (by simp)⟩
  | top => exact ⟨1, (Ideal.tanh_top).trans (by simp)⟩
  | coe r => exact ⟨Real.tanh r, rfl⟩

/-- The bounded value is a real number whatever the projected value is. -/
theorem bounded_real (d : Fin 6) (x : EReal) : ∃ r : ℝ, bounded d x = (r : EReal) := by
  obtain ⟨t, ht⟩ := tanh_real (x + (shift d : EReal))
  exact ⟨t * halfRange d - offset d, by rw [bounded, ht]; push_cast; rfl⟩

/-- The straight-through form of the rounding: a real plus the difference of its rounding and itself is its rounding. -/
theorem straight_through (f : ℝ → ℤ) (b : EReal) (hb : ∃ r : ℝ, b = (r : EReal)) :
    b + (Ideal.liftRound f b - b) = Ideal.liftRound f b := by
  obtain ⟨r, rfl⟩ := hb
  rw [Ideal.liftRound_coe, ← EReal.coe_sub, ← EReal.coe_add]
  exact congrArg _ (add_sub_cancel r _)

end Cert.Proof

end
-- ==== Proof.Block.lean ====
/- What one block of the kernel computes, read at one row and one column. -/
module

public import proofs.«01_k».proof.Proof.Gen.KernelIdeal.Skeleton
public import proofs.«01_k».proof.Proof.Consts
public import proofs.«01_k».proof.Proof.Code
public import Idealize.ShloMosaic.Lib.Pointwise

@[expose] public section

noncomputable section

namespace Cert.Proof.Block

open Idealize.ShloMosaic Cert.KernelIdeal Cert.KernelIdeal.Gen

/-- The kernel's constant for the half range of eight levels is 3.5035. -/
theorem half_range_eight : Named.named (F := Ideal) κ "half_l8" (φ := .f32) 0x40603958#32 = ((7007 / 2000 : ℝ) : EReal) :=
  IdealRules.named_const.ideal_named_scalar _ _ _ _ rfl

/-- The kernel's constant for the half range of five levels is 2.002. -/
theorem half_range_five : Named.named (F := Ideal) κ "half_l5" (φ := .f32) 0x400020C5#32 = ((1001 / 500 : ℝ) : EReal) :=
  IdealRules.named_const.ideal_named_scalar _ _ _ _ rfl

/-- The kernel's constant for the shift of eight levels is half the logarithm of 8007/6007. -/
theorem shift_eight : Named.named (F := Ideal) κ "shift8" (φ := .f32) 0x3E1324E0#32
    = ((1 / 2 * Real.log (8007 / 6007) : ℝ) : EReal) :=
  IdealRules.named_const.ideal_named_scalar _ _ _ _ rfl

/-- The kernel chooses by comparing the code position with three: the chosen value is the `if` on the position. -/
theorem choose (d : Fin 6) (a b : EReal) :
    Scalar.select (IntOp.cmpi CmpIPredicate.slt (BitVec.ofNat 32 d.val) 3#32) a b = if d.val < 3 then a else b := by
  fin_cases d <;> rfl

/-- One entry of a block: the quantised projection of that row of the block, projected back. -/
theorem pay_apply (z : Vec Ideal S4608x768 .f32) (wc : Vec Ideal S6x768 .f32) (bc : Vec Ideal S1x6 .f32)
    (we : Vec Ideal S768x6 .f32) (be : Vec Ideal S1x768 .f32) (r : Fin 4608) (e : Fin 768) :
    k0_pay1 z wc bc we be (ix2 r e)
      = entry (fun k => z (ix2 r k)) (fun d k => wc (ix2 d k)) (fun d => bc (ix2 0 d)) (fun d => we (ix2 e d))
          (be (ix2 0 e)) := by
  set_option maxRecDepth 16384 in
  pointwise [k0_pay1]
  simp only [choose, half_range_eight, half_range_five, shift_eight, Consts.half_word, Consts.quarter_word]
  unfold entry
  refine congrArg (· + _) (Finset.sum_congr rfl fun d _ => congrArg (· * _) ?_)
  unfold code bounded halfRange offset shift step
  split <;> simp only [EReal.coe_zero]

end Cert.Proof.Block

end
-- ==== Proof.Array.lean ====
/- What the result array holds after the four blocks are written: each of its 18432 rows is the quantised projection of the
   same row of the flattened input, projected back. Block `t` is rows `4608·t` to `4608·t + 4607`; the weights and biases are
   read whole at every block. -/
module

public import proofs.«01_k».proof.Proof.Gen.KernelIdeal.Frame
public import proofs.«01_k».proof.Proof.Block
public import Idealize.ShloMosaic.Lib.Pipeline.Value

@[expose] public section

noncomputable section

namespace Cert.Proof.Array

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The result array as one function of the five arrays the blocks are cut from. -/
def whole (z : Vec Ideal S18432x768 .f32) (wc : Vec Ideal S6x768 .f32) (bc : Vec Ideal S1x6 .f32)
    (we : Vec Ideal S768x6 .f32) (be : Vec Ideal S1x768 .f32) : Vec Ideal S18432x768 .f32 := fun i =>
  entry (fun k => z (ix2 (i 0) k)) (fun d k => wc (ix2 d k)) (fun d => bc (ix2 0 d)) (fun d => we (ix2 (i 1) d))
    (be (ix2 0 (i 1)))

/-- The offsets of an access to a whole staging buffer are zero. -/
theorem offsets_zero : (![0, 0] : Fin 2 → Nat) = fun _ => 0 := funext fun a => by fin_cases a <;> rfl

/-- What one block's run leaves in the output's staging buffer: the payload at the five staged blocks. -/
theorem out_eq (x0 : Vec Ideal S4608x768 .f32) (x1 : Vec Ideal S6x768 .f32) (x2 : Vec Ideal S1x6 .f32)
    (x3 : Vec Ideal S768x6 .f32) (x4 : Vec Ideal S1x768 .f32) : out0_5 x0 x1 x2 x3 x4 = k0_pay1 x0 x1 x2 x3 x4 := by
  unfold out0_5
  rw [View.canon_unit_zero offsets_zero, View.ld_unit_zero offsets_zero, View.ld_unit_zero offsets_zero,
    View.ld_unit_zero offsets_zero, View.ld_unit_zero offsets_zero, View.ld_unit_zero offsets_zero]

/-- The row blocks of the input and the output advance with the point; their column block is the only one. -/
theorem rows_index : ∀ t : Fin cfg0.N, win0_0.index t (0 : Fin 2) = t.val ∧ win0_0.index t (1 : Fin 2) = 0
    ∧ win0_5.index t (0 : Fin 2) = t.val ∧ win0_5.index t (1 : Fin 2) = 0 :=
  (by decide +kernel : ∀ t : Fin grid0.N, _)

/-- The weights and biases have one block, the same at every point. -/
theorem fixed_index : ∀ t : Fin cfg0.N, (∀ a : Fin 2, win0_1.index t a = 0) ∧ (∀ a : Fin 2, win0_2.index t a = 0)
    ∧ (∀ a : Fin 2, win0_3.index t a = 0) ∧ (∀ a : Fin 2, win0_4.index t a = 0) :=
  (by decide +kernel : ∀ t : Fin grid0.N, _)

/-- Row `r` of block `t` is a row of the array. -/
theorem row_lt (t : Fin cfg0.N) (r : Fin 4608) : t.val * 4608 + r.val < 18432 := by
  have h : t.val < 4 := N_0 ▸ t.isLt
  have := r.isLt
  omega

/-- Row `r` of block `t` as a row of the array. -/
def rowOf (t : Fin cfg0.N) (r : Fin 4608) : Fin 18432 := ⟨t.val * 4608 + r.val, row_lt t r⟩

/-- Where an entry of the input's block lies in the input. -/
theorem place_in (t : Fin cfg0.N) (r : Fin 4608) (k : Fin 768) :
    ((cfg0.win 0).blk t).view.emb (ix2 r k) = (ix2 (rowOf t r) k : S18432x768.Idx) := by
  obtain ⟨e0, e1, -, -⟩ := rows_index t
  funext a; apply Fin.ext
  match a with
  | ⟨0, _⟩ => show win0_0.index t (0 : Fin 2) * 4608 + 1 * r.val = t.val * 4608 + r.val; rw [e0]; omega
  | ⟨1, _⟩ => show win0_0.index t (1 : Fin 2) * 768 + 1 * k.val = k.val; rw [e1]; omega

/-- Where an entry of the output's block lies in the output. -/
theorem place_out (t : Fin cfg0.N) (r : Fin 4608) (e : Fin 768) :
    ((cfg0.win 5).blk t).view.emb (ix2 r e) = (ix2 (rowOf t r) e : S18432x768.Idx) := by
  obtain ⟨-, -, e0, e1⟩ := rows_index t
  funext a; apply Fin.ext
  match a with
  | ⟨0, _⟩ => show win0_5.index t (0 : Fin 2) * 4608 + 1 * r.val = t.val * 4608 + r.val; rw [e0]; omega
  | ⟨1, _⟩ => show win0_5.index t (1 : Fin 2) * 768 + 1 * e.val = e.val; rw [e1]; omega

/-- The staged input block read at row `r`, column `k`. -/
theorem in_block (c : Dev nD) (t : Fin cfg0.N) (r : Fin 4608) (k : Fin 768) :
    iblk m c 0 t (ix2 r k) = V m c main_v0 (ix2 (rowOf t r) k) :=
  congrArg (V m c main_v0) (place_in t r k)

/-- The staged compressing weights are the whole array. -/
theorem wc_block (c : Dev nD) (t : Fin cfg0.N) : iblk m c 1 t = V m c main_arg1 := by
  obtain ⟨e, -, -, -⟩ := fixed_index t
  funext j
  exact congrArg (V m c main_arg1) (funext fun a => Fin.ext ((cfg0.win 1).rect_emb_val_of_index_zero t a (e a) j))

/-- The staged compressing bias is the whole array. -/
theorem bc_block (c : Dev nD) (t : Fin cfg0.N) : iblk m c 2 t = V m c main_v1 := by
  obtain ⟨-, e, -, -⟩ := fixed_index t
  funext j
  exact congrArg (V m c main_v1) (funext fun a => Fin.ext ((cfg0.win 2).rect_emb_val_of_index_zero t a (e a) j))

/-- The staged expanding weights are the whole array. -/
theorem we_block (c : Dev nD) (t : Fin cfg0.N) : iblk m c 3 t = V m c main_arg3 := by
  obtain ⟨-, -, e, -⟩ := fixed_index t
  funext j
  exact congrArg (V m c main_arg3) (funext fun a => Fin.ext ((cfg0.win 3).rect_emb_val_of_index_zero t a (e a) j))

/-- The staged expanding bias is the whole array. -/
theorem be_block (c : Dev nD) (t : Fin cfg0.N) : iblk m c 4 t = V m c main_v2 := by
  obtain ⟨-, -, -, e⟩ := fixed_index t
  funext j
  exact congrArg (V m c main_v2) (funext fun a => Fin.ext ((cfg0.win 4).rect_emb_val_of_index_zero t a (e a) j))

/-- The result array, from the arrays as the blocked part of the program finds them. -/
abbrev result (c : Dev nD) : Vec Ideal S18432x768 .f32 :=
  whole (V m c main_v0) (V m c main_arg1) (V m c main_v1) (V m c main_arg3) (V m c main_v2)

/-- What point `t` writes back is its block of the result array. -/
theorem written (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5, out_eq, wc_block, bc_block, we_block, be_block]
  funext j
  obtain ⟨r, e, rfl⟩ : ∃ (r : Fin 4608) (e : Fin 768), j = ix2 r e := ⟨j 0, j 1, eq_ix2 j⟩
  show k0_pay1 (iblk m c 0 t) _ _ _ _ (ix2 r e) = result m c (((cfg0.win 5).blk t).view.emb (ix2 r e))
  rw [Block.pay_apply, place_out]
  exact congrArg (fun z => entry z _ _ _ _) (funext fun k => in_block m c t r k)

/-- Every entry of the output lies in some point's block. -/
theorem covered (i : S18432x768.Idx) :
    ∃ t : Fin cfg0.N, (cfg0.win 5).flush t = true ∧ i ∈ ((cfg0.win 5).blk t).view.set := by
  have h0 : (i 0).val < 18432 := (i 0).isLt
  have ht : (i 0).val / 4608 < cfg0.N := by
    rw [show cfg0.N = 4 from N_0]
    omega
  refine ⟨⟨(i 0).val / 4608, ht⟩, flush0_5 _, ?_⟩
  have place : ((cfg0.win 5).blk ⟨(i 0).val / 4608, ht⟩).view.emb
      (ix2 (⟨(i 0).val % 4608, Nat.mod_lt _ (by decide)⟩ : Fin 4608) (i 1 : Fin 768)) = i := by
    refine (place_out _ _ _).trans (funext fun a => Fin.ext ?_)
    match a with
    | ⟨0, _⟩ => show (i 0).val / 4608 * 4608 + (i 0).val % 4608 = (i 0).val; omega
    | ⟨1, _⟩ => rfl
  exact (congrArg (· ∈ ((cfg0.win 5).blk ⟨(i 0).val / 4608, ht⟩).view.set) place).mp (View.emb_mem_set _ _)

/-- The output array after the last block. -/
theorem final (c : Dev nD) : (dats m 0 c).arrAt 5 cfg0.N = result m c :=
  (dats m 0 c).arrAt_eq_of_cover 5 (result m c) (fun t _ => written m c t) covered

end Cert.Proof.Array

end
-- ==== Proof.Run.lean ====
/- The kernel's run, read at its two results: the reshapes before the blocks, the blocks' result array, the reshape after
   them, and the constant zero. -/
module

public import proofs.«01_k».proof.Proof.Array

@[expose] public section

noncomputable section

namespace Cert.Proof.Run

open Cert.KernelIdeal Cert.KernelIdeal.Gen Idealize.ShloMosaic Idealize.ShloMosaic.TcCoe Idealize.SL.Sem

/-- Flattening the rows, computing every row and regrouping the rows leaves each entry at its own row. -/
theorem regroup (z : Vec Ideal S32x576x768 .f32) (wc : Vec Ideal S6x768 .f32) (bc : Vec Ideal S6 .f32)
    (we : Vec Ideal S768x6 .f32) (be : Vec Ideal S768 .f32) (b : Fin 32) (r : Fin 576) (e : Fin 768) :
    shapeCast S32x576x768 (Array.whole (shapeCast S18432x768 z shapeCasts_S32x576x768_S18432x768) wc
        (shapeCast S1x6 bc shapeCasts_S6_S1x6) we (shapeCast S1x768 be shapeCasts_S768_S1x768))
        shapeCasts_S18432x768_S32x576x768 (ix3 b r e)
      = entry (fun k => z (ix3 b r k)) (fun d k => wc (ix2 d k)) (fun d => bc (ix1 d)) (fun d => we (ix2 e d))
          (be (ix1 e)) := by
  pointwise [Array.whole]

variable (m : (ℓ : Loc nD τ sig) → Buf (Elt Ideal) ℓ) (ρ : Dev nD → PrngReg)

/-- The blocks are cut from the input flattened to rows. -/
theorem flat_input (c : Dev nD) : V m c main_v0
    = shapeCast S18432x768 (m ((c : Thread nD τ).loc main_arg0)) shapeCasts_S32x576x768_S18432x768 := by
  show StableHlo.after hostOps0 (fun b => m (c, b)) (Proc.devRef .tc main_v0) = _
  after_results_simp <;> rfl

/-- The compressing bias is read as one row. -/
theorem row_bc (c : Dev nD) : V m c main_v1
    = shapeCast S1x6 (m ((c : Thread nD τ).loc main_arg2)) shapeCasts_S6_S1x6 := by
  show StableHlo.after hostOps0 (fun b => m (c, b)) (Proc.devRef .tc main_v1) = _
  after_results_simp <;> rfl

/-- The expanding bias is read as one row. -/
theorem row_be (c : Dev nD) : V m c main_v2
    = shapeCast S1x768 (m ((c : Thread nD τ).loc main_arg4)) shapeCasts_S768_S1x768 := by
  show StableHlo.after hostOps0 (fun b => m (c, b)) (Proc.devRef .tc main_v2) = _
  after_results_simp <;> rfl

/-- The first result of device `c`: the result array with its rows regrouped as 32 by 576. -/
def out (c : Dev nD) : Vec Ideal S32x576x768 .f32 :=
  shapeCast S32x576x768 (Array.result m c) shapeCasts_S18432x768_S32x576x768

/-- The lines after the blocks leave the first result at the regrouped result array. -/
theorem tail_out (c : Dev nD) :
    Pipeline.afterTail₀ cfgs (dats m) 0 (V0 m) [hostOps1] c main_v4 = out m c := by
  show StableHlo.after hostOps1 _ (Proc.devRef .tc main_v4) = _
  have h : Pipeline.withArrays (cfgs 0).spec c (V0 m c) (fun w => (dats m 0 c).arrAt w (cfgs 0).N)
      (Proc.devRef .tc main_v3) = Array.result m c :=
    (Pipeline.withArrays_arr (cfgs 0).spec launch0.win.arr_inj c (V0 m c) _ 5).trans (Array.final m c)
  unfold out
  rw [← h]
  after_results_simp <;> rfl

/-- The lines after the blocks leave the second result at the constant zero. -/
theorem tail_zero (c : Dev nD) :
    Pipeline.afterTail₀ cfgs (dats m) 0 (V0 m) [hostOps1] c main_cst = constant (F := Ideal) S_ .f32 0x00000000#32 := by
  show StableHlo.after hostOps1 _ (Proc.devRef .tc main_cst) = _
  after_results_simp <;> rfl

/-- The run: both results as stated above, the five arguments unchanged. -/
theorem run : θ_run defs (onTc (τ := τ) (main (F := Ideal))) ⟨m, fun _ => 0, ρ⟩ fun r => ∀ c : Dev nD,
      r.2.mem ((c.tc : Thread nD τ).loc main_v4) = out m c
      ∧ r.2.mem ((c.tc : Thread nD τ).loc main_cst) = constant (F := Ideal) S_ .f32 0x00000000#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun _ h c =>
      ⟨((h.1 c).2 main_v4 (Pipeline.mem_restRefs_of main_v4 (by decide) (by decide))).trans (tail_out m c),
        ((h.1 c).2 main_cst (Pipeline.mem_restRefs_of main_cst (by decide) (by decide))).trans (tail_zero m c), h.2 c⟩)
    (θ_run_and (run_main m ρ) (unchanged m ρ))

/-- One entry of the first result: the quantised projection of the row at `(b, r)`, projected back. -/
theorem out_apply (c : Dev nD) (b : Fin 32) (r : Fin 576) (e : Fin 768) :
    (out m c (ix3 b r e) : EReal)
      = entry (fun k => (m ((c : Thread nD τ).loc main_arg0) (ix3 b r k) : EReal))
          (fun d k => (m ((c : Thread nD τ).loc main_arg1) (ix2 d k) : EReal))
          (fun d => (m ((c : Thread nD τ).loc main_arg2) (ix1 d) : EReal))
          (fun d => (m ((c : Thread nD τ).loc main_arg3) (ix2 e d) : EReal))
          (m ((c : Thread nD τ).loc main_arg4) (ix1 e) : EReal) := by
  unfold out Array.result
  rw [flat_input, V_main_arg1, row_bc, V_main_arg3, row_be]
  exact regroup _ _ _ _ _ b r e

end Cert.Proof.Run

end
-- ==== Proof.Ref.lean ====
/- What the reference computes, read at one index: the same entry as the block's, from the reference's own way of
   writing the quantiser (levels modulo two, quotients, an inverse hyperbolic tangent, a straight-through rounding). -/
module

public import proofs.«01_k».proof.Proof.Gen.ReferenceIdeal.Run
public import proofs.«01_k».proof.Proof.Consts
public import proofs.«01_k».proof.Proof.Code
public import Idealize.ShloMosaic.Lib.Pointwise
public import Idealize.ShloMosaic.Lib.Tactic.CleanTypes

@[expose] public section

noncomputable section

namespace Cert.Proof.Ref

open Idealize.ShloMosaic Cert.ReferenceIdeal Cert.ReferenceIdeal.Gen Idealize.ShloMosaic.TcCoe

/-- The number of levels of code position `d`, as a real: eight below three, five from there on. -/
theorem levels_eq (d : Fin 6) : (FloatOps.sitofp (F := Ideal) .f32 (lit1 (S6.rowMajor (ix1 d))) : EReal)
    = ((if d.val < 3 then 8 else 5 : ℝ) : EReal) := by
  have h : lit1 (S6.rowMajor (ix1 d)) = if d.val < 3 then 8#32 else 5#32 := by fin_cases d <;> rfl
  rw [h]
  split
  · exact congrArg Real.toEReal (by exact_mod_cast (by decide : (8#32 : BitVec 32).toInt = 8))
  · exact congrArg Real.toEReal (by exact_mod_cast (by decide : (5#32 : BitVec 32).toInt = 5))

/-- Half the number of levels of code position `d`, rounded down, as a real: four below three, two from there on. -/
theorem half_width_eq (d : Fin 6) : (FloatOps.sitofp (F := Ideal) .f32 (lit0 (S6.rowMajor (ix1 d))) : EReal)
    = ((if d.val < 3 then 4 else 2 : ℝ) : EReal) := by
  have h : lit0 (S6.rowMajor (ix1 d)) = if d.val < 3 then 4#32 else 2#32 := by fin_cases d <;> rfl
  rw [h]
  split
  · exact congrArg Real.toEReal (by exact_mod_cast (by decide : (4#32 : BitVec 32).toInt = 4))
  · exact congrArg Real.toEReal (by exact_mod_cast (by decide : (2#32 : BitVec 32).toInt = 2))

/-- The half range, as the reference computes it: levels less one, times one and a thousandth, over two. -/
theorem half_range_eq (d : Fin 6) :
    Ideal.div (((FloatOps.sitofp (F := Ideal) .f32 (lit1 (S6.rowMajor (ix1 d))) : EReal) - 1)
        * (1 + Ideal.div 1 (Ideal.ofBits .f32 0x447A0000#32))) (Ideal.ofBits .f32 0x40000000#32)
      = (halfRange d : EReal) := by
  rw [levels_eq, Consts.thousand_word, Consts.two_word, Ideal.div_coe (by norm_num), Ideal.div_coe (by norm_num),
    ← EReal.coe_one, ← EReal.coe_sub, ← EReal.coe_mul, ← EReal.coe_add, ← EReal.coe_mul, ← EReal.coe_mul, halfRange]
  refine congrArg _ ?_
  split <;> norm_num

/-- The reference chooses by whether the number of levels is even (a remainder with the sign of the divisor, compared
    with zero): the chosen value is the `if` on the code position. -/
theorem even_choice (d : Fin 6) (a b : EReal) :
    Scalar.select (IntOp.cmpi .eq
        (Scalar.select
          (IntOp.andi
            (IntOp.cmpi .ne
              (IntOp.cmpi .slt
                (IntOp.remsi .host (lit1 (S6.rowMajor (ix1 d))) (Scalar.select (IntOp.cmpi .eq 2#32 0#32) 1#32 2#32))
                0#32)
              (IntOp.cmpi .slt (Scalar.select (IntOp.cmpi .eq 2#32 0#32) 1#32 2#32) 0#32))
            (IntOp.cmpi .ne
              (IntOp.remsi .host (lit1 (S6.rowMajor (ix1 d))) (Scalar.select (IntOp.cmpi .eq 2#32 0#32) 1#32 2#32))
              0#32))
          (IntOp.addi
            (IntOp.remsi .host (lit1 (S6.rowMajor (ix1 d))) (Scalar.select (IntOp.cmpi .eq 2#32 0#32) 1#32 2#32))
            (Scalar.select (IntOp.cmpi .eq 2#32 0#32) 1#32 2#32))
          (IntOp.remsi .host (lit1 (S6.rowMajor (ix1 d))) (Scalar.select (IntOp.cmpi .eq 2#32 0#32) 1#32 2#32)))
        0#32) a b
      = if d.val < 3 then a else b := by
  have h : lit1 (S6.rowMajor (ix1 d)) = if d.val < 3 then 8#32 else 5#32 := by fin_cases d <;> rfl
  rw [h]
  split <;> rfl

/-- The chosen offset: one half for the even positions and zero for the odd ones. -/
theorem offset_eq (d : Fin 6) : (if d.val < 3 then ((1 / 2 : ℝ) : EReal) else 0) = (offset d : EReal) := by
  unfold offset
  split <;> simp only [EReal.coe_zero]

/-- The inverse hyperbolic tangent of the offset over the half range is the shift: half the logarithm of 8007/6007 for
    eight levels, zero for five. -/
theorem shift_eq (d : Fin 6) : Ideal.atanh (Ideal.div (offset d : EReal) (halfRange d : EReal)) = (shift d : EReal) := by
  unfold offset halfRange shift
  split
  · rw [Ideal.div_coe (by norm_num), ← EReal.coe_mul, Ideal.atanh_coe, if_neg (by norm_num), if_neg (by norm_num),
      if_pos (by norm_num), Real.artanh, Real.log_sqrt (by norm_num)]
    refine congrArg _ ?_
    rw [show (1 + 1 / 2 * (1 / (7007 / 2000)) : ℝ) / (1 - 1 / 2 * (1 / (7007 / 2000))) = 8007 / 6007 by norm_num]
    ring
  · rw [Ideal.div_coe (by norm_num), ← EReal.coe_mul, Ideal.atanh_coe, if_neg (by norm_num), if_neg (by norm_num),
      if_pos (by norm_num), Real.artanh]
    norm_num

/-- The last division, by half the number of levels, is the product with the step. -/
theorem rescale_eq (d : Fin 6) (x : EReal) :
    Ideal.div x ((if d.val < 3 then 4 else 2 : ℝ) : EReal) = x * (step d : EReal) := by
  unfold step
  split <;> rw [Ideal.div_coe (by norm_num)]

/-- One entry of the reference's result: the quantised projection of the row at `(b, r)`, projected back. -/
theorem out_apply (m : (ℓ : Loc nD τ sig) → Buf (Elt Ideal) ℓ) (c : Dev nD) (b : Fin 32) (r : Fin 576) (e : Fin 768) :
    (Value.res_out0 (F := Ideal) m c (ix3 b r e) : EReal)
      = entry (fun k => (m ((c : Thread nD τ).loc main_arg0) (ix3 b r k) : EReal))
          (fun d k => (m ((c : Thread nD τ).loc main_arg1) (ix2 d k) : EReal))
          (fun d => (m ((c : Thread nD τ).loc main_arg2) (ix1 d) : EReal))
          (fun d => (m ((c : Thread nD τ).loc main_arg3) (ix2 e d) : EReal))
          (m ((c : Thread nD τ).loc main_arg4) (ix1 e) : EReal) := by
  unfold Value.res_out0 Value.res_main_v40
  clean_types
  simp only [id_eq]
  set_option maxRecDepth 16384 in
  pointwise []
  simp only [even_choice, half_range_eq, half_width_eq, Consts.half_word, offset_eq, shift_eq, rescale_eq]
  unfold entry
  refine congrArg (· + _) (Finset.sum_congr rfl fun d _ => congrArg (· * _) (congrArg (· * _) ?_))
  exact straight_through _ _ (bounded_real d _)

end Cert.Proof.Ref

end
-- ==== Proof.lean ====
/- The proof of the five claims: the kernel, its idealization and the reference end with their arguments unchanged; the
   kernel's three named constants stand for the reals they are named after; and over the extended reals the kernel and the
   reference leave the same two results. -/
module

public import proofs.«01_k».proof.Defs
public import proofs.«01_k».proof.Proof.Gen.Kernel.Frame
public import proofs.«01_k».proof.Proof.Run
public import proofs.«01_k».proof.Proof.Ref
public import Idealize.ShloMosaic.Lib.Quiescent

@[expose] public section

noncomputable section

namespace Cert.Proof

open Idealize.ShloMosaic Idealize.ShloMosaic.TcCoe Idealize.SL.Sem

/-- The kernel terminates, its arguments unchanged and its semaphores at zero. -/
theorem frame_p : Cert.quiescent_Kernel := fun m ρ _ => Cert.Kernel.Gen.frame m ρ

/-- So does its idealization. -/
theorem frame_pi : Cert.quiescent_KernelIdeal := fun m ρ _ => Cert.KernelIdeal.Gen.frame m ρ

/-- So does the reference. -/
theorem frame_ri : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- Each named constant of the kernel is the real it is named after. -/
theorem preserves : Cert.preserves_Kernel_KernelIdeal :=
  ⟨IdealRules.named_const.statement Cert.KernelIdeal.κ "half_l8" .f32 0x40603958#32 ((7007 / 2000 : ℝ) : EReal) rfl,
    IdealRules.named_const.statement Cert.KernelIdeal.κ "half_l5" .f32 0x400020C5#32 ((1001 / 500 : ℝ) : EReal) rfl,
    IdealRules.named_const.statement Cert.KernelIdeal.κ "shift8" .f32 0x3E1324E0#32
      (((1 / 2) * (Real.log (8007 / 6007)) : ℝ) : EReal) rfl⟩

/-- The equation: of arguments that agree, the reference's first result is the kernel's, entry by entry. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    Cert.ReferenceIdeal.Value.res_out0 (F := Ideal) m' c = Run.out m c := by
  funext j
  obtain ⟨b, r, e, rfl⟩ : ∃ (b : Fin 32) (r : Fin 576) (e : Fin 768), j = ix3 b r e := ⟨j 0, j 1, j 2, eq_ix3 j⟩
  refine (Ref.out_apply m' c b r e).trans (Eq.trans ?_ (Run.out_apply m c b r e).symm)
  rw [h0, h1, h2, h3, h4]

/-- Over the extended reals the kernel and the reference, on arguments that agree, leave the same two results. -/
theorem algebraic : Cert.algebraic_KernelIdeal_ReferenceIdeal := by
  intro m ρ m' ρ' _ hagree
  refine ⟨_, _, Run.run m ρ, ?_⟩
  refine (θ_run Cert.ReferenceIdeal.defs _ _).mono (fun _ h c => ⟨(h c).1.trans ?_, (h c).2.1, (h c).2.2⟩)
    (Cert.ReferenceIdeal.Value.run (F := Ideal) m' ρ')
  obtain ⟨h0, h1, h2, h3, h4⟩ := hagree c
  exact results_eq m m' c h0 h1 h2 h3 h4

/-- All the claims, after the facts the programs state about themselves. -/
theorem claim : Cert.Claim := ⟨Cert.Kernel.Gen.facts, Cert.KernelIdeal.Gen.facts, Cert.ReferenceIdeal.Gen.facts,
  frame_p, frame_pi, frame_ri, preserves, algebraic⟩

end Cert.Proof

end
